-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x16384 : Shape := ⟨3, ![24, 1, 16384]⟩
abbrev S6656x8192 : Shape := ⟨2, ![6656, 8192]⟩
abbrev S6656x512 : Shape := ⟨2, ![6656, 512]⟩
abbrev S24x512x2x16 : Shape := ⟨4, ![24, 512, 2, 16]⟩
abbrev S24x512x16x2 : Shape := ⟨4, ![24, 512, 16, 2]⟩
abbrev S24x16384 : Shape := ⟨2, ![24, 16384]⟩
abbrev S24x6656 : Shape := ⟨2, ![24, 6656]⟩
abbrev S256x8192 : Shape := ⟨2, ![256, 8192]⟩
abbrev S256x512 : Shape := ⟨2, ![256, 512]⟩
abbrev S24x256 : Shape := ⟨2, ![24, 256]⟩
abbrev S512x256 : Shape := ⟨2, ![512, 256]⟩
abbrev S256x128 : Shape := ⟨2, ![256, 128]⟩
abbrev S128x256 : Shape := ⟨2, ![128, 256]⟩
abbrev S32x256 : Shape := ⟨2, ![32, 256]⟩
abbrev S32x1x256 : Shape := ⟨3, ![32, 1, 256]⟩
abbrev S32x8x256 : Shape := ⟨3, ![32, 8, 256]⟩
abbrev S256x256 : Shape := ⟨2, ![256, 256]⟩
abbrev S1x256 : Shape := ⟨2, ![1, 256]⟩
abbrev S16x256 : Shape := ⟨2, ![16, 256]⟩

abbrev nBuf : Space → Nat
  | .hbm => 7
  | .vmem => 8
  | .smem => 0
  | _ => 0

abbrev bufTy : (tb : Table) → Fin (tcTables nBuf tb) → BufTy
  | .hbm, ⟨0, _⟩ => ⟨S24x1x16384, .bf16⟩
  | .hbm, ⟨1, _⟩ => ⟨S6656x8192, .i8⟩
  | .hbm, ⟨2, _⟩ => ⟨S6656x512, .bf16⟩
  | .hbm, ⟨3, _⟩ => ⟨S24x512x2x16, .bf16⟩
  | .hbm, ⟨4, _⟩ => ⟨S24x512x16x2, .bf16⟩
  | .hbm, ⟨5, _⟩ => ⟨S24x16384, .bf16⟩
  | .hbm, ⟨6, _⟩ => ⟨S24x6656, .bf16⟩
  | .local _ .vmem, ⟨0, _⟩ => ⟨S24x16384, .bf16⟩
  | .local _ .vmem, ⟨1, _⟩ => ⟨S256x8192, .i8⟩
  | .local _ .vmem, ⟨2, _⟩ => ⟨S256x8192, .i8⟩
  | .local _ .vmem, ⟨3, _⟩ => ⟨S256x512, .bf16⟩
  | .local _ .vmem, ⟨4, _⟩ => ⟨S256x512, .bf16⟩
  | .local _ .vmem, ⟨5, _⟩ => ⟨S24x256, .bf16⟩
  | .local _ .vmem, ⟨6, _⟩ => ⟨S24x256, .bf16⟩
  | .local _ .vmem, ⟨7, _⟩ => ⟨S512x256, .f32⟩
  | _, _ => ⟨S24x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

@[reducible] def k0_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v11 : BitVec 32 := Scalar.muli arg6 c128_i32
  v11
def k0_off1 (k0_t1 : Fin k0_t1_loop.trips) : Fin 2 → Nat :=
  let c0_6 : Index := 0#32
  let c0_i32 : BitVec 32 := 0#32
  let c1_i32 : BitVec 32 := 1#32
  let arg6 : BitVec 32 := Scf.iv c0_i32 c1_i32 k0_t1
  let c128_i32 : BitVec 32 := 128#32
  let v11 : BitVec 32 := Scalar.muli arg6 c128_i32
  let v12 : BitVec 32 := v11
  let v13 : Index := Scalar.indexCast v12
  ![0, v13.toNat]
def k0_off2 (k0_t1 : Fin k0_t1_loop.trips) (c0_i32_7 : BitVec 32) : Fin 2 → Nat :=
  let c0_i32 : BitVec 32 := 0#32
  let c1_i32 : BitVec 32 := 1#32
  let arg6 : BitVec 32 := Scf.iv c0_i32 c1_i32 k0_t1
  let c8_i32 : BitVec 32 := 8#32
  let v31 : BitVec 32 := Scalar.muli arg6 c8_i32
  let v32 : BitVec 32 := Scalar.addi v31 c0_i32_7
  let v33 : Index := Scalar.indexCast v32
  let c0_8 : Index := 0#32
  ![v33.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v120 : BitVec 32 := Scalar.muli arg6 c256_i32
  v120
def k0_off3 (k0_t1 : Fin k0_t1_loop.trips) : Fin 2 → Nat :=
  let c0_26 : Index := 0#32
  let c0_i32 : BitVec 32 := 0#32
  let c1_i32 : BitVec 32 := 1#32
  let arg6 : BitVec 32 := Scf.iv c0_i32 c1_i32 k0_t1
  let c256_i32 : BitVec 32 := 256#32
  let v120 : BitVec 32 := Scalar.muli arg6 c256_i32
  let v121 : BitVec 32 := v120
  let v122 : Index := Scalar.indexCast v121
  ![0, v122.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S24x1x16384 : Shape := ⟨3, ![24, 1, 16384]⟩
abbrev S6656x8192 : Shape := ⟨2, ![6656, 8192]⟩
abbrev S6656x512 : Shape := ⟨2, ![6656, 512]⟩
abbrev S_ : Shape := ⟨0, ![]⟩
abbrev S6656x512x16 : Shape := ⟨3, ![6656, 512, 16]⟩
abbrev S6656x512x1 : Shape := ⟨3, ![6656, 512, 1]⟩
abbrev S24x1x512x32 : Shape := ⟨4, ![24, 1, 512, 32]⟩
abbrev S24x1x512x16 : Shape := ⟨4, ![24, 1, 512, 16]⟩
abbrev S24x1x6656 : Shape := ⟨3, ![24, 1, 6656]⟩
abbrev S24x6656 : Shape := ⟨2, ![24, 6656]⟩

abbrev nBuf : Space → Nat
  | .hbm => 34
  | .vmem => 0
  | .smem => 0
  | _ => 0

abbrev bufTy : (tb : Table) → Fin (tcTables nBuf tb) → BufTy
  | .hbm, ⟨0, _⟩ => ⟨S24x1x16384, .bf16⟩
  | .hbm, ⟨1, _⟩ => ⟨S6656x8192, .i8⟩
  | .hbm, ⟨2, _⟩ => ⟨S6656x512, .bf16⟩
  | .hbm, ⟨3, _⟩ => ⟨S6656x8192, .i32⟩
  | .hbm, ⟨4, _⟩ => ⟨S_, .i32⟩
  | .hbm, ⟨5, _⟩ => ⟨S6656x8192, .i32⟩
  | .hbm, ⟨6, _⟩ => ⟨S6656x8192, .i32⟩
  | .hbm, ⟨7, _⟩ => ⟨S6656x512x16, .i32⟩
  | .hbm, ⟨8, _⟩ => ⟨S6656x512x16, .bf16⟩
  | .hbm, ⟨9, _⟩ => ⟨S_, .bf16⟩
  | .hbm, ⟨10, _⟩ => ⟨S6656x512x16, .bf16⟩
  | .hbm, ⟨11, _⟩ => ⟨S6656x512x16, .bf16⟩
  | .hbm, ⟨12, _⟩ => ⟨S6656x512x1, .bf16⟩
  | .hbm, ⟨13, _⟩ => ⟨S6656x512x16, .bf16⟩
  | .hbm, ⟨14, _⟩ => ⟨S6656x512x16, .bf16⟩
  | .hbm, ⟨15, _⟩ => ⟨S_, .i32⟩
  | .hbm, ⟨16, _⟩ => ⟨S6656x8192, .i32⟩
  | .hbm, ⟨17, _⟩ => ⟨S6656x8192, .i32⟩
  | .hbm, ⟨18, _⟩ => ⟨S6656x512x16, .i32⟩
  | .hbm, ⟨19, _⟩ => ⟨S6656x512x16, .bf16⟩
  | .hbm, ⟨20, _⟩ => ⟨S_, .bf16⟩
  | .hbm, ⟨21, _⟩ => ⟨S6656x512x16, .bf16⟩
  | .hbm, ⟨22, _⟩ => ⟨S6656x512x16, .bf16⟩
  | .hbm, ⟨23, _⟩ => ⟨S6656x512x1, .bf16⟩
  | .hbm, ⟨24, _⟩ => ⟨S6656x512x16, .bf16⟩
  | .hbm, ⟨25, _⟩ => ⟨S6656x512x16, .bf16⟩
  | .hbm, ⟨26, _⟩ => ⟨S24x1x512x32, .bf16⟩
  | .hbm, ⟨27, _⟩ => ⟨S24x1x512x16, .bf16⟩
  | .hbm, ⟨28, _⟩ => ⟨S24x1x6656, .f32⟩
  | .hbm, ⟨29, _⟩ => ⟨S24x1x512x16, .bf16⟩
  | .hbm, ⟨30, _⟩ => ⟨S24x1x6656, .f32⟩
  | .hbm, ⟨31, _⟩ => ⟨S24x1x6656, .f32⟩
  | .hbm, ⟨32, _⟩ => ⟨S24x1x6656, .bf16⟩
  | .hbm, ⟨33, _⟩ => ⟨S24x6656, .bf16⟩
  | _, _ => ⟨S24x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Codes.lean ====
/-
  What one packed byte holds, and what the kernel's and the reference's unpacking of it give over the extended reals:
  each byte is two four-bit codes, the low one first, and a code `c` stands for the weight `c − 8`.
-/
module

public import proofs.«01_k».proof.Proof.Gen.KernelIdeal.Skeleton
public import Idealize.ShloMosaic.Lib.BitcastFour
public import Idealize.ShloMosaic.Lib.Pointwise

@[expose] public section

noncomputable section

namespace Cert.Q4

open Idealize.ShloMosaic

/-- The signed weight of half `h` of a packed byte (0: the low four bits, 1: the high four): the code minus 8. -/
def code (b : BitVec 8) (h : ℕ) : ℤ := ((b.toNat / 2 ^ (4 * h) % 16 : ℕ) : ℤ) - 8

/-- The same as an extended real. -/
def wt (b : BitVec 8) (h : ℕ) : EReal := ((code b h : ℝ) : EReal)

/-- Flipping the top bit of a four-bit word and reading it signed subtracts 8 from its unsigned reading. -/
theorem toInt_flip (x : BitVec 4) : (x ^^^ 8#4).toInt = (x.toNat : ℤ) - 8 := by
  revert x; decide

/-- The kernel's shift amount: four times the row's place among the eight nibbles of its word. -/
theorem amount (r : Fin 256) :
    IntOp.muli (IntOp.andi (BitVec.ofNat 32 r.val) 7#32) 4#32 = BitVec.ofNat 32 (4 * (r.val % 8)) := by
  revert r; decide

/-- Nibble `k` of a word whose nibbles' top bits are all flipped is nibble `k` of the word, its top bit flipped. -/
theorem nibble_flip (W : BitVec 32) (k : ℕ) (hk : k < 8) :
    (IntOp.shrui .vector (IntOp.xori W 2290649224#32) (BitVec.ofNat 32 (4 * k))).setWidth 4 = W.extractLsb' (4 * k) 4 ^^^ 8#4 := by
  interval_cases k <;>
  · apply BitVec.eq_of_getLsbD_eq
    intro i hi
    simp only [IntOp.shrui, IntOp.xori, IntOp.cornerWord]
    interval_cases i <;> simp [BitVec.getLsbD_extractLsb', BitVec.getLsbD_setWidth]

/-- A byte's half `h` as a four-bit word, read unsigned. -/
theorem half_toNat (b : BitVec 8) (h : ℕ) : ((b.extractLsb' (4 * h) 4).toNat : ℤ) - 8 = code b h := by
  rw [BitVec.extractLsb'_toNat, Nat.shiftRight_eq_div_pow]; rfl

/-- Four rows of bytes read as one word: nibble `k` of word `a` is half `k % 2` of row `4 a + k / 2`. -/
theorem word_nibble (x : (⟨2, ![128, 256]⟩ : Shape).Idx → BitVec 8) (h : (⟨2, ![128, 256]⟩ : Shape).Bitcasts 8 ⟨2, ![32, 256]⟩ 32)
    (a : Fin 32) (n : Fin 256) (k : ℕ) (hk : k < 8) (p : Fin 128) (hp : p.val = 4 * a.val + k / 2) :
    (bitcast ⟨2, ![32, 256]⟩ 32 x h (ix2 a n)).extractLsb' (4 * k) 4 = (x (ix2 p n)).extractLsb' (4 * (k % 2)) 4 := by
  apply BitVec.eq_of_getLsbD_eq
  intro i hi
  have e := bitcast_8_32_getLsbD_ix2 x h a n (4 * k + i) (by omega) p (by omega)
  simp only [BitVec.getLsbD_extractLsb', ix2_eq_valueIdx, e, hi, decide_true, Bool.true_and]
  congr 1; omega

/-- A kernel's nibble, shifted down, cut to four bits and read signed, is the weight of its half byte. -/
theorem nibble_wt (x : (⟨2, ![128, 256]⟩ : Shape).Idx → BitVec 8) (h : (⟨2, ![128, 256]⟩ : Shape).Bitcasts 8 ⟨2, ![32, 256]⟩ 32)
    (r n : Fin 256) (a : Fin 32) (ha : a.val = r.val / 8) (p : Fin 128) (hp : p.val = r.val / 2) :
    ((IntOp.shrui .vector (IntOp.xori (bitcast ⟨2, ![32, 256]⟩ 32 x h (ix2 a n)) 2290649224#32)
      (IntOp.muli (IntOp.andi (BitVec.ofNat 32 r.val) 7#32) 4#32)).setWidth 4).toInt = code (x (ix2 p n)) (r.val % 2) := by
  rw [amount, nibble_flip _ _ (by omega), toInt_flip,
    word_nibble x h a n (r.val % 8) (by omega) p (by omega), half_toNat]
  congr 1; omega

open Cert.KernelIdeal Cert.KernelIdeal.Gen in
/-- The kernel's unpacked block of weights: row `r` of column `n` is half `r % 2` of byte `r / 2` of the packed row `n`. -/
theorem pay10_apply (v : Vec Ideal S256x128 .i8) (r n : Fin 256) :
    k0_pay10 v (ix2 r n) = wt (v (ix2 n ⟨r.val / 2, by omega⟩)) (r.val % 2) := by
  pointwise [k0_pay10]
  refine (congrArg (fun z : ℤ => ((z : ℝ) : EReal)) (nibble_wt _ _ r n _ rfl ⟨r.val / 2, by omega⟩ rfl)).trans ?_
  unfold wt
  pointwise

/-! ## The reference's unpacking -/

/-- The bf16 constant the reference subtracts is 8. -/
theorem eight : Ideal.ofBits .bf16 0x4100#16 = ((8 : ℝ) : EReal) := by
  simp [Ideal.ofBits, Ideal.ieee, -EReal.coe_mul]; norm_num

/-- Subtracting 8 from an integer, both as extended reals. -/
theorem sub_eight (z : ℤ) : ((z : ℝ) : EReal) - ((8 : ℝ) : EReal) = (((z - 8 : ℤ) : ℝ) : EReal) := by
  rw [← EReal.coe_sub]; push_cast; rfl

/-- The reference's low field: the byte masked to its low four bits, less 8, is the weight of half 0. -/
theorem low_wt (b : BitVec 8) : (((IntOp.andi (b.setWidth 32) 15#32).toInt : ℝ) : EReal) - ((8 : ℝ) : EReal) = wt b 0 := by
  rw [sub_eight]
  refine congrArg (fun z : ℤ => ((z : ℝ) : EReal)) ?_
  revert b; unfold code; decide

/-- The reference's high field: the byte shifted down by four, less 8, is the weight of half 1. -/
theorem high_wt (b : BitVec 8) : (((IntOp.shrsi .host (b.setWidth 32) 4#32).toInt : ℝ) : EReal) - ((8 : ℝ) : EReal) = wt b 1 := by
  rw [sub_eight]
  refine congrArg (fun z : ℤ => ((z : ℝ) : EReal)) ?_
  revert b; unfold code; decide

end Cert.Q4

end
-- ==== Proof.Block.lean ====
/-
  One trip of the kernel's loop over the packed columns, at its values: the block of weights it builds — each unpacked
  weight times its group's scale — and the product it adds to the running sum.
-/
module

public import proofs.«01_k».proof.Proof.Codes
public import Idealize.ShloMosaic.Lib.Pipeline.Value

@[expose] public section

noncomputable section

namespace Cert.Q4

open Idealize.ShloMosaic Cert.KernelIdeal Cert.KernelIdeal.Gen

/-- The block of scaled weights a trip joins from its sixteen strips of sixteen rows; `s g` is the scale row of the trip's
    group `g`. -/
def block (v : Vec Ideal S256x128 .i8) (s : Fin 8 → Vec Ideal S1x256 .f32) : FVec Ideal S256x256 .bf16 :=
  concatenate S256x256 0 [⟨S16x256, k0_pay12 v (s 0)⟩, ⟨S16x256, k0_pay13 v (s 0)⟩, ⟨S16x256, k0_pay15 v (s 1)⟩, ⟨S16x256, k0_pay16 v (s 1)⟩,
    ⟨S16x256, k0_pay18 (k0_pay10 v) (s 2)⟩, ⟨S16x256, k0_pay19 (k0_pay10 v) (s 2)⟩, ⟨S16x256, k0_pay21 (k0_pay10 v) (s 3)⟩, ⟨S16x256, k0_pay22 (k0_pay10 v) (s 3)⟩,
    ⟨S16x256, k0_pay24 (k0_pay10 v) (s 4)⟩, ⟨S16x256, k0_pay25 (k0_pay10 v) (s 4)⟩, ⟨S16x256, k0_pay27 (k0_pay10 v) (s 5)⟩, ⟨S16x256, k0_pay28 (k0_pay10 v) (s 5)⟩,
    ⟨S16x256, k0_pay3 (k0_pay10 v) (k0_pay29 (s 6))⟩, ⟨S16x256, k0_pay4 (k0_pay10 v) (k0_pay29 (s 6))⟩, ⟨S16x256, k0_pay6 (k0_pay10 v) (k0_pay5 (s 7))⟩, ⟨S16x256, k0_pay7 (k0_pay10 v) (k0_pay5 (s 7))⟩]
    concatenates_S16x256_S16x256_S16x256_S16x256_S16x256_S16x256_S16x256_S16x256_S16x256_S16x256_S16x256_S16x256_S16x256_S16x256_S16x256_S16x256_S256x256_d0

/-- Strip `j` of a block: rows `16 j … 16 j + 15` of the unpacked weights `q`, each times the scale row `e`. -/
def strip (q : FVec Ideal S256x256 .bf16) (e : Vec Ideal S1x256 .f32) (j : Fin 16) : FVec Ideal S16x256 .bf16 :=
  fun x => q (ix2 ⟨16 * j.val + (x 0).val, by have := ValueIdx.idx2_lt0 x; omega⟩ (x 1)) * e (ix2 0 (x 1))

variable (v : Vec Ideal S256x128 .i8) (q : FVec Ideal S256x256 .bf16) (e : Vec Ideal S1x256 .f32)

/-- The payload `k0_pay12` is strip 0. -/
theorem strip_12 : k0_pay12 v e = strip (k0_pay10 v) e 0 := by
  generalize hq : k0_pay10 v = q
  funext x; idx_vars x; pointwise [k0_pay12, k0_pay11, strip, hq]
/-- The payload `k0_pay13` is strip 1. -/
theorem strip_13 : k0_pay13 v e = strip (k0_pay10 v) e 1 := by
  generalize hq : k0_pay10 v = q
  funext x; idx_vars x; pointwise [k0_pay13, k0_pay11, strip, hq]
/-- The payload `k0_pay15` is strip 2. -/
theorem strip_15 : k0_pay15 v e = strip (k0_pay10 v) e 2 := by
  generalize hq : k0_pay10 v = q
  funext x; idx_vars x; pointwise [k0_pay15, k0_pay14, strip, hq]
/-- The payload `k0_pay16` is strip 3. -/
theorem strip_16 : k0_pay16 v e = strip (k0_pay10 v) e 3 := by
  generalize hq : k0_pay10 v = q
  funext x; idx_vars x; pointwise [k0_pay16, k0_pay14, strip, hq]
/-- The payload `k0_pay18` is strip 4. -/
theorem strip_18 : k0_pay18 q e = strip q e 4 := by
  funext x; idx_vars x; pointwise [k0_pay18, k0_pay17, strip]
/-- The payload `k0_pay19` is strip 5. -/
theorem strip_19 : k0_pay19 q e = strip q e 5 := by
  funext x; idx_vars x; pointwise [k0_pay19, k0_pay17, strip]
/-- The payload `k0_pay21` is strip 6. -/
theorem strip_21 : k0_pay21 q e = strip q e 6 := by
  funext x; idx_vars x; pointwise [k0_pay21, k0_pay20, strip]
/-- The payload `k0_pay22` is strip 7. -/
theorem strip_22 : k0_pay22 q e = strip q e 7 := by
  funext x; idx_vars x; pointwise [k0_pay22, k0_pay20, strip]
/-- The payload `k0_pay24` is strip 8. -/
theorem strip_24 : k0_pay24 q e = strip q e 8 := by
  funext x; idx_vars x; pointwise [k0_pay24, k0_pay23, strip]
/-- The payload `k0_pay25` is strip 9. -/
theorem strip_25 : k0_pay25 q e = strip q e 9 := by
  funext x; idx_vars x; pointwise [k0_pay25, k0_pay23, strip]
/-- The payload `k0_pay27` is strip 10. -/
theorem strip_27 : k0_pay27 q e = strip q e 10 := by
  funext x; idx_vars x; pointwise [k0_pay27, k0_pay26, strip]
/-- The payload `k0_pay28` is strip 11. -/
theorem strip_28 : k0_pay28 q e = strip q e 11 := by
  funext x; idx_vars x; pointwise [k0_pay28, k0_pay26, strip]
/-- The payload `k0_pay3` is strip 12. -/
theorem strip_3 : k0_pay3 q (k0_pay29 e) = strip q e 12 := by
  funext x; idx_vars x; pointwise [k0_pay3, k0_pay29, strip]
/-- The payload `k0_pay4` is strip 13. -/
theorem strip_4 : k0_pay4 q (k0_pay29 e) = strip q e 13 := by
  funext x; idx_vars x; pointwise [k0_pay4, k0_pay29, strip]
/-- The payload `k0_pay6` is strip 14. -/
theorem strip_6 : k0_pay6 q (k0_pay5 e) = strip q e 14 := by
  funext x; idx_vars x; pointwise [k0_pay6, k0_pay5, strip]
/-- The payload `k0_pay7` is strip 15. -/
theorem strip_7 : k0_pay7 q (k0_pay5 e) = strip q e 15 := by
  funext x; idx_vars x; pointwise [k0_pay7, k0_pay5, strip]

/-- The block at row `r`, column `n`: the unpacked weight there times the scale of its group of 32 rows. -/
theorem block_apply (s : Fin 8 → Vec Ideal S1x256 .f32) (r n : Fin 256) :
    block v s (ix2 r n) = k0_pay10 v (ix2 r n) * s ⟨r.val / 32, by omega⟩ (ix2 0 n) := by
  unfold block
  simp only [strip_12, strip_13, strip_15, strip_16, strip_18, strip_19, strip_21, strip_22, strip_24, strip_25, strip_27, strip_28,
    strip_3, strip_4, strip_6, strip_7]
  refine (concatenate_ofFn_apply (t := S256x256) (a := 0) (s₁ := S16x256) (fun j : Fin 16 => strip (k0_pay10 v) (s ⟨j.val / 2, by omega⟩) j) concatenates_S16x256_S16x256_S16x256_S16x256_S16x256_S16x256_S16x256_S16x256_S16x256_S16x256_S16x256_S16x256_S16x256_S16x256_S16x256_S16x256_S256x256_d0 rfl 16 rfl
    (ix2 r n) ⟨r.val / 16, by omega⟩ rfl (ix2 ⟨r.val % 16, by omega⟩ n) ?_ ?_).trans ?_
  · rfl
  · intro b hb
    match b with
    | ⟨0, _⟩ => exact absurd rfl hb
    | ⟨1, _⟩ => rfl
  · have e1 : 16 * (r.val / 16) + r.val % 16 = r.val := Nat.div_add_mod ..
    have e2 : r.val / 16 / 2 = r.val / 32 := Nat.div_div_eq_div_mul ..
    unfold strip
    pointwise
    simp only [e1, e2]

/-- What a trip adds to the running sum `acc`: the product of its 256 columns of activations with its block of weights. -/
theorem pay8_apply (acc : FVec Ideal S24x256 .f32) (W : FVec Ideal S256x256 .bf16) (X : Vec Ideal S24x256 .bf16) (b : Fin 24) (n : Fin 256) :
    k0_pay8 acc W X (ix2 b n) = acc (ix2 b n) + ∑ r : Fin 256, X (ix2 b r) * W (ix2 r n) := by
  pointwise [k0_pay8]

/-- The scale scratch buffer holds the block of scales transposed. -/
theorem pay1_apply (S : Vec Ideal S256x512 .bf16) (g : Fin 512) (n : Fin 256) : k0_pay1 S (ix2 g n) = S (ix2 n g) := by
  pointwise [k0_pay1]

/-- The running sum starts at zero. -/
theorem pay2_apply (b : Fin 24) (n : Fin 256) : k0_pay2 (F := Ideal) (ix2 b n) = 0 := by
  pointwise [k0_pay2]

/-- The last rounding is the identity over the extended reals. -/
theorem pay9_apply (acc : FVec Ideal S24x256 .f32) (b : Fin 24) (n : Fin 256) : k0_pay9 acc (ix2 b n) = acc (ix2 b n) := by
  pointwise [k0_pay9]

end Cert.Q4

end
-- ==== Proof.Trip.lean ====
/-
  What the kernel's body leaves in its output block, as a function of its three input blocks: the sum, over the 64 trips of
  its loop and the 256 columns of each, of an activation times an unpacked weight times its group's scale.
-/
module

public import proofs.«01_k».proof.Proof.Block
public import proofs.«01_k».proof.Proof.Gen.KernelIdeal.Value
public import Idealize.ShloMosaic.Lib.Pipeline.ValueKit.Tiles
public import Idealize.ShloMosaic.Lib.Tactic

@[expose] public section

noncomputable section

namespace Cert.Q4

open Idealize.ShloMosaic Idealize.ShloMosaic.TcCoe Idealize.SL.Sem Cert.KernelIdeal Cert.KernelIdeal.Gen

/-- A load of a rectangle of a rank-two buffer, read at an index. -/
theorem readAt2 {sp : Space} {R C r c : ℕ} {e : EltTy} (v : View sig .tc sp ⟨2, ![R, C]⟩ e) (X : v.ty.Contents (Elt Ideal))
    (off : Fin 2 → ℕ) (o0 o1 : ℕ) (hoff : off = ![o0, o1])
    (inb : ∀ a, off a + (![r, c] : Fin 2 → ℕ) a ≤ (![R, C] : Fin 2 → ℕ) a) (i : Fin r) (j : Fin c) (p : Fin R) (q : Fin C)
    (hp : p.val = o0 + i.val) (hq : q.val = o1 + j.val) :
    v.readAt (Elt Ideal) (Rect.unit (s := ⟨2, ![R, C]⟩) off ![r, c] inb).toLoadRect X (ix2 i j) = v.read (Elt Ideal) X (ix2 p q) := by
  subst hoff
  rw [View.readAt_eq_ld]
  refine View.ld_unit_apply_of _ _ _ _ _ _ fun a => ?_
  match a with
  | ⟨0, _⟩ => exact hp
  | ⟨1, _⟩ => exact hq

/-- One product of the contraction, at column `p` of the activations: activation, unpacked weight, scale of the group. -/
def term (X : Vec Ideal S24x16384 .bf16) (W : Vec Ideal S256x8192 .i8) (S : Vec Ideal S256x512 .bf16) (b : Fin 24) (n : Fin 256)
    (p : ℕ) : EReal :=
  if h : p < 16384 then X (ix2 b ⟨p, h⟩) * (wt (W (ix2 n ⟨p / 2, by omega⟩)) (p % 2) * S (ix2 n ⟨p / 32, by omega⟩)) else 0

/-- The loop runs 64 trips. -/
theorem trips : k0_t1_loop.trips = 64 := by decide

section
variable (𝒱 : Variants) (c : Dev nD) (bd : Option 𝒱.V) (i : grid0.Coords)
    (arg1 : Memref sig .tc .vmem S24x16384 .bf16) (harg1 : arg1.IsWhole) (arg2 : Memref sig .tc .vmem S256x8192 .i8) (harg2 : arg2.IsWhole)
    (arg3 : Memref sig .tc .vmem S256x512 .bf16) (harg3 : arg3.IsWhole) (arg4 : Memref sig .tc .vmem S24x256 .bf16) (harg4 : arg4.IsWhole)
    (arg5 : Memref sig .tc .vmem S512x256 .f32) (harg5 : arg5.IsWhole)
    (X1 : BufTy.Contents (Elt Ideal) arg1.view.ty) (X2 : BufTy.Contents (Elt Ideal) arg2.view.ty) (X5 : BufTy.Contents (Elt Ideal) arg5.view.ty)
    (k : Fin k0_t1_loop.trips) (acc : FVec Ideal S24x256 .f32)

/-- The activations a trip loads: columns `256 k …`. -/
def xs : Vec Ideal S24x256 .bf16 :=
  View.readAt (Elt Ideal) arg1.view (Rect.unit (s := S24x16384) (k0_off3 k) S24x256.size (k0_off3_inb k)).toLoadRect X1
/-- The packed bytes a trip loads: columns `128 k …`. -/
def ws : Vec Ideal S256x128 .i8 :=
  View.readAt (Elt Ideal) arg2.view (Rect.unit (s := S256x8192) (k0_off1 k) S256x128.size (k0_off1_inb k)).toLoadRect X2
/-- The scale row of group `g` of a trip's eight: row `8 k + g` of the scratch buffer. -/
def ss (g : Fin 8) : Vec Ideal S1x256 .f32 :=
  View.readAt (Elt Ideal) arg5.view (Rect.unit (s := S512x256) (k0_off2 k (BitVec.ofNat 32 g.val)) S1x256.size (k0_off2_inb k g)).toLoadRect X5

/-- A trip's result: the running sum plus the product of its loads. -/
theorem trip_eq : tripR_k0_t1 𝒱 c bd i arg1 harg1 arg2 harg2 arg3 harg3 arg4 harg4 arg5 harg5 X1 X2 X5 k acc
    = k0_pay8 acc (block (ws arg2 X2 k) (ss arg5 X5 k)) (xs arg1 X1 k) := by
  unfold tripR_k0_t1 trip_k0_t1
  dsimp only
  rfl

variable (X : Vec Ideal S24x16384 .bf16) (W : Vec Ideal S256x8192 .i8) (S : Vec Ideal S256x512 .bf16)
  (hX : arg1.view.read (Elt Ideal) X1 = X) (hW : arg2.view.read (Elt Ideal) X2 = W) (hS : arg5.view.read (Elt Ideal) X5 = k0_pay1 S)

include hX hW hS

/-- A trip's result at an index: the running sum plus its 256 products. -/
theorem trip_apply (b : Fin 24) (n : Fin 256) :
    tripR_k0_t1 𝒱 c bd i arg1 harg1 arg2 harg2 arg3 harg3 arg4 harg4 arg5 harg5 X1 X2 X5 k acc (ix2 b n)
      = acc (ix2 b n) + ∑ r ∈ Finset.range 256, term X W S b n (256 * k.val + r) := by
  have hk : k.val < 64 := trips ▸ k.isLt
  rw [trip_eq, pay8_apply, Finset.sum_range]
  congr 1
  refine Finset.sum_congr rfl fun r _ => ?_
  have hr := r.isLt
  rw [block_apply, pay10_apply, term, dif_pos (by omega)]
  have eX : xs arg1 X1 k (ix2 b r) = X (ix2 b ⟨256 * k.val + r.val, by omega⟩) := by
    rw [← hX]; exact readAt2 arg1.view X1 _ _ _ (k0_off3_eq k) _ b r _ _ (by omega) rfl
  have eW : ws arg2 X2 k (ix2 n ⟨r.val / 2, by omega⟩) = W (ix2 n ⟨(256 * k.val + r.val) / 2, by omega⟩) := by
    rw [← hW]; exact readAt2 arg2.view X2 _ _ _ (k0_off1_eq k) _ n _ _ _ (by omega) (by show (256 * k.val + r.val) / 2 = 128 * k.val + r.val / 2; omega)
  have eS : ss arg5 X5 k ⟨r.val / 32, by omega⟩ (ix2 0 n) = S (ix2 n ⟨(256 * k.val + r.val) / 32, by omega⟩) := by
    rw [← pay1_apply S, ← hS]
    exact readAt2 arg5.view X5 _ _ _ (k0_off2_eq k _) _ 0 n _ _ (by show (256 * k.val + r.val) / 32 = 8 * k.val + r.val / 32 + 0; omega) (by omega)
  have e2 : r.val % 2 = (256 * k.val + r.val) % 2 := by omega
  rw [eX, eW, eS, e2]

/-- The running sum before trip `K`: the first `256 K` products. -/
theorem st_apply (b : Fin 24) (n : Fin 256) : ∀ K : ℕ, K ≤ 64 →
    st_k0_t1 𝒱 c bd i arg1 harg1 arg2 harg2 arg3 harg3 arg4 harg4 arg5 harg5 X1 X2 X5 k0_pay2 K (ix2 b n)
      = ∑ p ∈ Finset.range (256 * K), term X W S b n p
  | 0, _ => by rw [st_k0_t1_zero, pay2_apply]; rfl
  | K + 1, h => by
    have hK : K < k0_t1_loop.trips := trips ▸ h
    rw [show K + 1 = (⟨K, hK⟩ : Fin k0_t1_loop.trips).val + 1 from rfl, st_k0_t1_succ,
      trip_apply (hX := hX) (hW := hW) (hS := hS), st_apply b n K (by omega)]
    rw [Nat.mul_add, Finset.sum_range_add]

end

theorem hz : (![0, 0] : Fin 2 → Nat) = fun _ => 0 := funext fun a => by fin_cases a <;> rfl

/-- A buffer stored over whole reads as what was stored. -/
theorem read_writes_whole {sp : Space} {S : Shape} {e : EltTy} (v : View sig .tc sp S e) {off : Fin S.rank → ℕ} (h : off = fun _ => 0)
    (inb : ∀ a, off a + S.size a ≤ S.size a) (f : v.ty.Contents (Elt Ideal)) (w : S.Idx → Elt Ideal e) :
    v.read (Elt Ideal) (v.writes (Elt Ideal) f [⟨Rect.unit off S.size inb, w⟩]) = w := by
  rw [View.read_writes_eq_canon _ _ _ (fun y => ⟨_, List.mem_singleton_self _, View.mem_set_unit_zero h inb y⟩), View.canon_unit_zero h]

/-- What the body leaves in the output block at an index: all 16384 products summed. -/
theorem out_apply (c : Dev nD) (i : grid0.Coords)
    (arg1 : Memref sig .tc .vmem S24x16384 .bf16) (harg1 : arg1.IsWhole) (arg2 : Memref sig .tc .vmem S256x8192 .i8) (harg2 : arg2.IsWhole)
    (arg3 : Memref sig .tc .vmem S256x512 .bf16) (harg3 : arg3.IsWhole) (arg4 : Memref sig .tc .vmem S24x256 .bf16) (harg4 : arg4.IsWhole)
    (arg5 : Memref sig .tc .vmem S512x256 .f32) (harg5 : arg5.IsWhole)
    (X : Vec Ideal S24x16384 .bf16) (W : Vec Ideal S256x8192 .i8) (S : Vec Ideal S256x512 .bf16) (b : Fin 24) (n : Fin 256) :
    out0_A_3 c i arg1 harg1 arg2 harg2 arg3 harg3 arg4 harg4 arg5 harg5 X W S (ix2 b n) = ∑ p ∈ Finset.range 16384, term X W S b n p := by
  unfold out0_A_3
  rw [View.read_writes_eq_canon _ _ _ (cover0_A_3 c i arg1 harg1 arg2 harg2 arg3 harg3 arg4 harg4 arg5 harg5 X W S)]
  unfold kernelRun0_A
  dsimp only
  sl_unfold_words
  rw [View.canon_unit_zero (S := S24x256) hz, pay9_apply, show Scf.trips 0#32 (Scalar.addi 0#32 64#32) 1#32 = 64 from by decide]
  refine (st_apply Variants.none c none i arg1 harg1 arg2 harg2 arg3 harg3 arg4 harg4 arg5 harg5 (harg1.unread X) (harg2.unread W) _
    X W S (harg1.read_unread _) (harg2.read_unread _) ?_ b n 64 (le_refl _)).trans
    (congrArg (fun K => ∑ p ∈ Finset.range K, term X W S b n p) (by norm_num))
  rw [read_writes_whole (S := S512x256) _ hz]
  simp only [View.readAt_eq_ld, harg3.read_unread, View.ld_unit_zero (S := S256x512) hz]

end Cert.Q4

end
-- ==== Proof.Ref.lean ====
/-
  What the reference computes, at an index.
-/
module

public import proofs.«01_k».proof.Proof.Codes
public import proofs.«01_k».proof.Proof.Gen.ReferenceIdeal.Run
public import Idealize.ShloMosaic.Lib.Pointwise

@[expose] public section

noncomputable section

namespace Cert.Q4

open Idealize.ShloMosaic Idealize.ShloMosaic.TcCoe Idealize.SL.Sem Cert.ReferenceIdeal Cert.ReferenceIdeal.Gen

/-- The reference's result, as its operations compose it from the activations, the packed weights and the scales. -/
def ref (x : FVec Ideal S24x1x16384 .bf16) (w : IVec S6656x8192 8) (s : FVec Ideal S6656x512 .bf16) : FVec Ideal S24x6656 .bf16 :=
  shapeCast _ (truncf (F := Ideal) .bf16 (addf (Host.dotGeneral dot_S24x1x512x16_S6656x512x16_S24x1x6656_23_12_01_0_n_n none (extractStridedSlice S24x1x512x16 ![0, 0, 0, 0] (shapeCast _ x shapeCasts_S24x1x16384_S24x1x512x32) slices_S24x1x512x32_S24x1x512x16_0_0_0_0) (mulf (subf (sitofp .bf16 (shapeCast _ (andi (extui 32 w natLt_8_32) (broadcastInDim S6656x8192 ![] bcast_S_S6656x8192 (constantI S_ 32 15#32))) shapeCasts_S6656x8192_S6656x512x16)) (broadcastInDim S6656x512x16 ![] bcast_S_S6656x512x16 (constant S_ .bf16 0x4100#16))) (broadcastInDim S6656x512x16 ![0, 1, 2] bcast_S6656x512x1_S6656x512x16_0_1_2 (broadcastInDim S6656x512x1 ![0, 1] bcast_S6656x512_S6656x512x1_0_1 s)))) (Host.dotGeneral dot_S24x1x512x16_S6656x512x16_S24x1x6656_23_12_01_0_n_n none (extractStridedSlice S24x1x512x16 ![0, 0, 0, 16] (shapeCast _ x shapeCasts_S24x1x16384_S24x1x512x32) slices_S24x1x512x32_S24x1x512x16_0_0_0_16) (mulf (subf (sitofp .bf16 (shapeCast _ (Host.shrsi (extui 32 w natLt_8_32) (broadcastInDim S6656x8192 ![] bcast_S_S6656x8192 (constantI S_ 32 4#32))) shapeCasts_S6656x8192_S6656x512x16)) (broadcastInDim S6656x512x16 ![] bcast_S_S6656x512x16 (constant S_ .bf16 0x4100#16))) (broadcastInDim S6656x512x16 ![0, 1, 2] bcast_S6656x512x1_S6656x512x16_0_1_2 (broadcastInDim S6656x512x1 ![0, 1] bcast_S6656x512_S6656x512x1_0_1 s))))) bitsLt_bf16_f32) shapeCasts_S24x1x6656_S24x6656

/-- An integer converted to bfloat16 is that integer, over the reals. -/
theorem sitofp_eq (v : BitVec 32) : (FloatOps.sitofp (F := Ideal) .bf16 v : EReal) = ((v.toInt : ℝ) : EReal) := rfl

/-- The reference at an index: over the groups and the sixteen bytes of each, the low codes against the first half of the
    group's activations, plus the high codes against the second half. -/
theorem ref_apply (x : FVec Ideal S24x1x16384 .bf16) (w : IVec S6656x8192 8) (s : FVec Ideal S6656x512 .bf16) (b : Fin 24) (o : Fin 6656) :
    ref x w s (ix2 b o)
      = (∑ g : Fin 512, ∑ j : Fin 16, x (ix3 b 0 ⟨g.val * 32 + j.val, by omega⟩) * (wt (w (ix2 o ⟨g.val * 16 + j.val, by omega⟩)) 0 * s (ix2 o g)))
        + ∑ g : Fin 512, ∑ j : Fin 16,
            x (ix3 b 0 ⟨g.val * 32 + (16 + j.val), by omega⟩) * (wt (w (ix2 o ⟨g.val * 16 + j.val, by omega⟩)) 1 * s (ix2 o g)) := by
  unfold ref
  pointwise
  simp only [eight, sitofp_eq, low_wt, high_wt]

end Cert.Q4

end
-- ==== Proof.Inputs.lean ====
/-
  What the kernel's input blocks hold at each grid point, in terms of the arguments.
-/
module

public import proofs.«01_k».proof.Proof.Codes
public import proofs.«01_k».proof.Proof.Gen.KernelIdeal.Value
public import Idealize.ShloMosaic.Lib.Pipeline.ValueKit.Geometry
public import Idealize.ShloMosaic.Lib.StableHlo.Run
public import Idealize.ShloMosaic.Lib.Tactic

@[expose] public section

noncomputable section

namespace Cert.Q4

open Idealize.ShloMosaic Idealize.ShloMosaic.TcCoe Idealize.SL.Sem Cert.KernelIdeal Cert.KernelIdeal.Gen

variable (m : (ℓ : Loc nD τ sig) → Buf (Elt Ideal) ℓ) (c : Dev nD)

/-- The column of `x` that the kernel's permuted activations hold at column `p`. -/
def col (p : Fin 16384) : Fin 16384 := ⟨32 * (p.val / 32) + 16 * (p.val % 2) + p.val % 32 / 2, by omega⟩

/-- The permuted activations: on the host, each group's two halves are interleaved. -/
def perm (x : Vec Ideal S24x1x16384 .bf16) : Vec Ideal S24x16384 .bf16 :=
  shapeCast _ (transpose S24x512x16x2 [0, 1, 3, 2] (shapeCast _ x shapeCasts_S24x1x16384_S24x512x2x16) transposes_S24x512x2x16_S24x512x16x2_0_1_3_2)
    shapeCasts_S24x512x16x2_S24x16384

theorem perm_apply (x : Vec Ideal S24x1x16384 .bf16) (b : Fin 24) (p : Fin 16384) :
    perm x (ix2 b p) = x (ix3 b 0 (col p)) := by
  unfold perm
  pointwise
  refine congrArg (fun q => x (ix3 b 0 q)) (Fin.ext ?_)
  show p.val / 32 * 32 + p.val % 2 * 16 + p.val / 2 % 16 = 32 * (p.val / 32) + 16 * (p.val % 2) + p.val % 32 / 2
  omega

/-- The first window's array, as the region finds it: the permuted activations. -/
theorem V_v2 : V m c main_v2 = perm (m ((c : Thread nD τ).loc main_arg0)) := by
  show StableHlo.after hostOps0 (fun b => m (c, b)) (Proc.devRef .tc main_v2) = _
  unfold perm
  after_results_simp <;> rfl

theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, t.val] := (by decide +kernel : ∀ t : Fin grid0.N, _)

/-- The activations' block is the whole permuted array at every point. -/
theorem iblk0_apply (t : Fin cfg0.N) (b : Fin 24) (p : Fin 16384) :
    iblk m c 0 t (ix2 b p) = m ((c : Thread nD τ).loc main_arg0) (ix3 b 0 (col p)) := by
  refine Eq.trans ?_ (perm_apply (m ((c : Thread nD τ).loc main_arg0)) b p)
  rw [← V_v2]
  blk_simp [iblk, index0]
  congr 1
  blk_ext [index0]

/-- The packed weights' block at point `t`: rows `256 t …`. -/
theorem iblk1_apply (t : Fin cfg0.N) (n : Fin 256) (j : Fin 8192) (o : Fin 6656) (ho : o.val = 256 * t.val + n.val) :
    iblk m c 1 t (ix2 n j) = m ((c : Thread nD τ).loc main_arg1) (ix2 o j) := by
  rw [← V_main_arg1 m c]
  blk_simp [iblk, index1]
  congr 1
  blk_ext [index1]

/-- The scales' block at point `t`: rows `256 t …`. -/
theorem iblk2_apply (t : Fin cfg0.N) (n : Fin 256) (g : Fin 512) (o : Fin 6656) (ho : o.val = 256 * t.val + n.val) :
    iblk m c 2 t (ix2 n g) = m ((c : Thread nD τ).loc main_arg2) (ix2 o g) := by
  rw [← V_main_arg2 m c]
  blk_simp [iblk, index2]
  congr 1
  blk_ext [index2]

end Cert.Q4

end
-- ==== Proof.Equation.lean ====
/-
  The kernel's sum over 16384 interleaved columns is the reference's two sums over groups and bytes.
-/
module

public import proofs.«01_k».proof.Proof.Ref
public import proofs.«01_k».proof.Proof.Inputs

@[expose] public section

noncomputable section

namespace Cert.Q4

open Idealize.ShloMosaic Idealize.ShloMosaic.TcCoe Idealize.SL.Sem

/-- A sum over `a n` consecutive numbers, in `n` stretches of `a`. -/
theorem sum_stretches (f : ℕ → EReal) (a : ℕ) : ∀ n : ℕ,
    ∑ p ∈ Finset.range (a * n), f p = ∑ i ∈ Finset.range n, ∑ r ∈ Finset.range a, f (a * i + r)
  | 0 => by simp
  | n + 1 => by rw [Nat.mul_add, Nat.mul_one, Finset.sum_range_add, sum_stretches f a n, Finset.sum_range_succ]

/-- A sum over 16384 numbers: over 512 groups and sixteen pairs of neighbours in each. -/
theorem sum_pairs (f : ℕ → EReal) : ∑ p ∈ Finset.range 16384, f p
    = ∑ g : Fin 512, ∑ j : Fin 16, (f (32 * g.val + (2 * j.val + 0)) + f (32 * g.val + (2 * j.val + 1))) := by
  rw [show (16384 : ℕ) = 32 * 512 from rfl, sum_stretches f 32 512, Finset.sum_range]
  refine Finset.sum_congr rfl fun g _ => ?_
  rw [show (32 : ℕ) = 2 * 16 from rfl, sum_stretches (fun r => f (2 * 16 * g.val + r)) 2 16, Finset.sum_range]
  refine Finset.sum_congr rfl fun j _ => ?_
  rw [Finset.sum_range_succ, Finset.sum_range_one]

/-- One product of the kernel's contraction, in terms of the arguments. -/
def prod (x : Vec Ideal KernelIdeal.S24x1x16384 .bf16) (w : Vec Ideal KernelIdeal.S6656x8192 .i8) (s : Vec Ideal KernelIdeal.S6656x512 .bf16)
    (b : Fin 24) (o : Fin 6656) (p : ℕ) : EReal :=
  if h : p < 16384 then x (ix3 b 0 (col ⟨p, h⟩)) * (wt (w (ix2 o ⟨p / 2, by omega⟩)) (p % 2) * s (ix2 o ⟨p / 32, by omega⟩)) else 0

/-- The kernel's sum is the reference's. -/
theorem sum_eq_ref (x : Vec Ideal KernelIdeal.S24x1x16384 .bf16) (w : Vec Ideal KernelIdeal.S6656x8192 .i8)
    (s : Vec Ideal KernelIdeal.S6656x512 .bf16) (b : Fin 24) (o : Fin 6656) :
    ∑ p ∈ Finset.range 16384, prod x w s b o p = ref x w s (ix2 b o) := by
  rw [sum_pairs, ref_apply, ← Finset.sum_add_distrib]
  refine Finset.sum_congr rfl fun g _ => ?_
  rw [← Finset.sum_add_distrib]
  refine Finset.sum_congr rfl fun j _ => ?_
  have hg := g.isLt
  have hj := j.isLt
  have h2 : ∀ h : ℕ, h < 2 → (32 * g.val + (2 * j.val + h)) / 2 = g.val * 16 + j.val := fun h _ => by omega
  have h3 : ∀ h : ℕ, h < 2 → (32 * g.val + (2 * j.val + h)) / 32 = g.val := fun h _ => by omega
  have h4 : ∀ h : ℕ, h < 2 → (32 * g.val + (2 * j.val + h)) % 2 = h := fun h _ => by omega
  have c0 : 32 * g.val + 0 + (32 * g.val + (2 * j.val + 0)) % 32 / 2 = g.val * 32 + j.val := by omega
  have c1 : 32 * g.val + 16 + (32 * g.val + (2 * j.val + 1)) % 32 / 2 = g.val * 32 + (16 + j.val) := by omega
  unfold prod
  rw [dif_pos (by omega), dif_pos (by omega)]
  simp only [col, h2 0 (by omega), h2 1 (by omega), h3 0 (by omega), h3 1 (by omega), h4 0 (by omega), h4 1 (by omega), Nat.mul_zero, Nat.mul_one,
    c0, c1]

end Cert.Q4

end
-- ==== Proof.Array.lean ====
/-
  What the kernel's result array ends holding: the reference's value of the same arguments.
-/
module

public import proofs.«01_k».proof.Proof.Trip
public import proofs.«01_k».proof.Proof.Equation

@[expose] public section

noncomputable section

namespace Cert.Q4

open Idealize.ShloMosaic Idealize.ShloMosaic.TcCoe Idealize.SL.Sem Cert.KernelIdeal Cert.KernelIdeal.Gen

variable (m : (ℓ : Loc nD τ sig) → Buf (Elt Ideal) ℓ) (c : Dev nD)

/-- A product of point `t`'s blocks is that product of the arguments, at row `256 t + n`. -/
theorem term_eq (t : Fin cfg0.N) (b : Fin 24) (n : Fin 256) (o : Fin 6656) (ho : o.val = 256 * t.val + n.val) (p : ℕ) :
    term (iblk m c 0 t) (iblk m c 1 t) (iblk m c 2 t) b n p
      = prod (m ((c : Thread nD τ).loc main_arg0)) (m ((c : Thread nD τ).loc main_arg1)) (m ((c : Thread nD τ).loc main_arg2)) b o p := by
  unfold term prod
  split
  · rw [iblk0_apply, iblk1_apply m c t n _ o ho, iblk2_apply m c t n _ o ho]
  · rfl

/-- The reference's value of the kernel's arguments. -/
def value : Buf (Elt Ideal) ((c : Thread nD τ).loc main_v3) :=
  ref (m ((c : Thread nD τ).loc main_arg0)) (m ((c : Thread nD τ).loc main_arg1)) (m ((c : Thread nD τ).loc main_arg2))

/-- What a point leaves in its output block, at an index: the reference's value at row `256 t + n`. -/
theorem after_apply (t : Fin cfg0.N) (b : Fin 24) (n : Fin 256) (o : Fin 6656) (ho : o.val = 256 * t.val + n.val) :
    outsAt0 m c t (ix2 b n) = value m c (ix2 b o) := by
  unfold outsAt0
  refine (out_apply c _ _ _ _ _ _ _ _ _ _ _ _ _ _ b n).trans ?_
  rw [Finset.sum_congr rfl fun p _ => term_eq m c t b n o ho p]
  exact sum_eq_ref _ _ _ b o

/-- What a point leaves in its output block is the reference's value under the block. -/
theorem after_emb (t : Fin cfg0.N) (y : S24x256.Idx) : outsAt0 m c t y = value m c ((win0_3.blk t).view.emb y) := by
  have ht : t.val < 26 := by have := t.isLt; have hN : cfg0.N = 26 := N_0; omega
  idx_vars y
  rw [after_apply m c t y0 y1 ⟨256 * t.val + y1.val, by omega⟩ rfl]
  congr 1
  blk_ext [index3]

/-- The result array ends holding the reference's value. -/
theorem final : (dats m 0 c).arrAt 3 cfg0.N = value m c := by
  refine (dats m 0 c).arrAt_eq_of_covers 3 _ (by decide +kernel) fun t _ y => ?_
  blk_simp
  rw [after0_3]
  exact after_emb m c t y

end Cert.Q4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Over the extended reals, from the same arguments, the kernel and the reference both end with the reference's value, the
    arguments unchanged. -/
theorem algebraic : Cert.algebraic_KernelIdeal_ReferenceIdeal := by
  intro m g m' g' _ hargs
  refine ⟨fun c => Cert.Q4.value m c, (θ_run _ _ _).mono (fun r h c => ⟨(h c).1.trans (Cert.Q4.final m c), (h c).2⟩)
    (Cert.KernelIdeal.Value.run_blocks (F := Ideal) m g), (θ_run _ _ _).mono (fun r h c => ⟨(h c).1.trans ?_, (h c).2⟩)
    (Cert.ReferenceIdeal.Value.run (F := Ideal) m' g')⟩
  rw [(hargs c).1, (hargs c).2.1, (hargs c).2.2]
  rfl

/-- The five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  trivial,
  algebraic⟩

end Cert.Proof

end
